-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v33) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ bitexact_Kernel_Reference (hKernel := hKernel) (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x4096x2048 : Shape := ⟨3, ![4, 4096, 2048]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x4096x2048 .f32) (main_arg1 : IVec S4 32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 4096#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S4x4096x2048 : Shape := ⟨3, ![4, 4096, 2048]⟩
abbrev S4 : Shape := ⟨1, ![4]⟩
abbrev S16384x2048 : Shape := ⟨2, ![16384, 2048]⟩
abbrev S8x2048 : Shape := ⟨2, ![8, 2048]⟩
abbrev S_ : Shape := ⟨0, ![]⟩
abbrev S1 : Shape := ⟨1, ![1]⟩
abbrev S1x2048 : Shape := ⟨2, ![1, 2048]⟩

abbrev nBuf : Table → Nat
  | .hbm => 4
  | .local .scScalar .smem => 1
  | _ => 0

abbrev bufTy : (tb : Table) → Fin (nBuf tb) → BufTy
  | .hbm, ⟨0, _⟩ => ⟨S4x4096x2048, .f32⟩
  | .hbm, ⟨1, _⟩ => ⟨S4, .i32⟩
  | .hbm, ⟨2, _⟩ => ⟨S16384x2048, .f32⟩
  | .hbm, ⟨3, _⟩ => ⟨S8x2048, .f32⟩
  | .local .scScalar .smem, ⟨0, _⟩ => ⟨S4, .i32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c8_i32 : BitVec 32 := 8#32
  let v0 : BitVec 32 := Scalar.addi c0_i32_0 c8_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c3_i32 : BitVec 32 := 3#32
  let v2 : BitVec 32 := Scalar.andi arg6 c3_i32
  let v8 : Index := Scalar.indexCast v2
  ![v8.toNat]
def k0_off2 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c0_i32_9 : BitVec 32 := 0#32
  ![arg6.toNat, 0]
def k0_off3 (k0_t1 : Fin k0_t1_loop.trips) (v9 : BitVec 32) : Fin 2 → Nat :=
  let c0_i32_0 : BitVec 32 := 0#32
  let c1_i32 : BitVec 32 := 1#32
  let arg6 : BitVec 32 := Scf.iv c0_i32_0 c1_i32 k0_t1
  let c3_i32 : BitVec 32 := 3#32
  let v2 : BitVec 32 := Scalar.andi arg6 c3_i32
  let c1_i32_7 : BitVec 32 := 1#32
  let v3 : BitVec 32 := Scalar.minsi v2 c1_i32_7
  let c2_i32_8 : BitVec 32 := 2#32
  let c2_i32 : BitVec 32 := 2#32
  let v4 : BitVec 32 := Scalar.shrsi arg6 c2_i32
  let v5 : BitVec 32 := Scalar.muli c2_i32_8 v4
  let v6 : BitVec 32 := Scalar.addi v3 v5
  let c4096_i32 : BitVec 32 := 4096#32
  let v7 : BitVec 32 := Scalar.muli v6 c4096_i32
  let v10 : BitVec 32 := Scalar.addi v7 v9
  let c0_i32_10 : BitVec 32 := 0#32
  ![v10.toNat, 0]

def k0_chk1 (k0_t1 : Fin k0_t1_loop.trips) (v9 : BitVec 32) : Prop :=
  (∀ a, (k0_off3 k0_t1 v9) a + S1x2048.size a ≤ S16384x2048.size a)
theorem k0_off3_inb : ∀ (k0_t1 : Fin k0_t1_loop.trips) (v9 : BitVec 32) (k0_hw1 : k0_chk1 k0_t1 v9), ∀ a, (k0_off3 k0_t1 v9) a + S1x2048.size a ≤ S16384x2048.size a := fun k0_t1 v9 k0_hw1 => k0_hw1

@[reducible] def k0_t2_loop : Scf.Loop 32 :=
  let c0_i32_3 : BitVec 32 := 0#32
  let c8_i32_4 : BitVec 32 := 8#32
  let v1 : BitVec 32 := Scalar.addi c0_i32_3 c8_i32_4
  let c1_i32_5 : BitVec 32 := 1#32
  ⟨c0_i32_3, v1, c1_i32_5⟩
def k0_off4 (k0_t2 : Fin k0_t2_loop.trips) : Fin 2 → Nat :=
  let c0_i32_3 : BitVec 32 := 0#32
  let c1_i32_5 : BitVec 32 := 1#32
  let arg6 : BitVec 32 := Scf.iv c0_i32_3 c1_i32_5 k0_t2
  let c0_i32_7 : BitVec 32 := 0#32
  ![arg6.toNat, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x4096x2048 : Shape := ⟨3, ![4, 4096, 2048]⟩
abbrev S4 : Shape := ⟨1, ![4]⟩
abbrev S4x1 : Shape := ⟨2, ![4, 1]⟩
abbrev S2x4096x2048 : Shape := ⟨3, ![2, 4096, 2048]⟩
abbrev S_ : Shape := ⟨0, ![]⟩
abbrev S4x2 : Shape := ⟨2, ![4, 2]⟩
abbrev S4x2048 : Shape := ⟨2, ![4, 2048]⟩
abbrev S8x2048 : Shape := ⟨2, ![8, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4x1, .i32⟩
  | .hbm, ⟨3, _⟩ => ⟨S2x4096x2048, .f32⟩
  | .hbm, ⟨4, _⟩ => ⟨S2x4096x2048, .f32⟩
  | .hbm, ⟨5, _⟩ => ⟨S4, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S4x1, .i32⟩
  | .hbm, ⟨23, _⟩ => ⟨S4x2, .i32⟩
  | .hbm, ⟨24, _⟩ => ⟨S4x2048, .f32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S4x1, .i32⟩
  | .hbm, ⟨40, _⟩ => ⟨S4x1, .i32⟩
  | .hbm, ⟨41, _⟩ => ⟨S4x2, .i32⟩
  | .hbm, ⟨42, _⟩ => ⟨S4x2048, .f32⟩
  | .hbm, ⟨43, _⟩ => ⟨S8x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Rows.lean ====
/-
  The rows the kernel moves, as mathematics: which row of the flattened table the copy of trip `t` reads, what the
  result array holds once every row has landed (`gathered`), the printed offset chains in closed form, and one row's
  copy read at an index. Nothing here mentions a thread or a resource.
-/
module

public import proofs.«01_k».proof.Proof.Gen.KernelIdeal
public import Idealize.ShloMosaic.Lib.ValueIdx
public import Idealize.ShloMosaic.Lib.Ring

@[expose] public section

noncomputable section

namespace Cert.Proof.Gather

open Cert.KernelIdeal Cert.KernelIdeal.Gen
open Idealize.ShloMosaic Idealize.ShloMosaic.ValueIdx

/-- The batch row of the flattened table which output row `t` is read from: `min (t mod 4) 1` in the half `t / 4`. -/
def srcBatch (t : ℕ) : ℕ := min (t % 4) 1 + 2 * (t / 4)

theorem srcBatch_lt {t : ℕ} (h : t < 8) : srcBatch t < 4 := by unfold srcBatch; omega

/-- The result, row by row: output row `r` is row `srcBatch r * 4096 + w (r mod 4)` of the table (the remainder only
    makes the definition total: a word below 4096 keeps the row inside the table). -/
def gathered {α : Type} (T : S16384x2048.Idx → α) (w : S4.Idx → BitVec 32) : S8x2048.Idx → α := fun i =>
  T (ix2 ⟨(srcBatch (i 0).val * 4096 + (w (ix1 ⟨(i 0).val % 4, Nat.mod_lt _ (by decide)⟩)).toNat) % 16384,
    Nat.mod_lt _ (by decide)⟩ (i 1))

/-! ## The printed offsets -/

/-- Trip `k` reads word `k mod 4` of the index array. -/
theorem off1_eq : ∀ k : Fin k0_t1_loop.trips, k0_off1 k = ![k.val % 4] := by decide +kernel

/-- The part of the source row's number that does not depend on the word read. -/
theorem base_eq : ∀ k : Fin k0_t1_loop.trips,
    Scalar.muli (Scalar.addi (Scalar.minsi (Scalar.andi (Scf.iv 0#32 1#32 k) 3#32) 1#32)
      (Scalar.muli 2#32 (Scalar.shrsi (Scf.iv 0#32 1#32 k) 2#32))) 4096#32 = BitVec.ofNat 32 (srcBatch k.val * 4096) := by
  decide +kernel

theorem trips1 : k0_t1_loop.trips = 8 := by decide
theorem trips2 : k0_t2_loop.trips = 8 := by decide

/-- For a word below 4096 trip `k` copies row `srcBatch k * 4096 + w` of the table. -/
theorem off3_eq (k : Fin k0_t1_loop.trips) {w : BitVec 32} (hw : w.toNat < 4096) :
    k0_off3 k w = ![srcBatch k.val * 4096 + w.toNat, 0] := by
  have hk : srcBatch k.val < 4 := srcBatch_lt (k.cast trips1).isLt
  show ![(Scalar.addi _ w).toNat, 0] = _
  rw [base_eq k]
  have e : (Scalar.addi (BitVec.ofNat 32 (srcBatch k.val * 4096)) w).toNat = srcBatch k.val * 4096 + w.toNat := by
    show (BitVec.ofNat 32 (srcBatch k.val * 4096) + w).toNat = _
    rw [BitVec.toNat_add, BitVec.toNat_ofNat]; omega
  rw [e]

/-- The side condition the kernel assumes of the word it read holds of every word below 4096. -/
theorem chk_of_lt (k : Fin k0_t1_loop.trips) {w : BitVec 32} (hw : w.toNat < 4096) : k0_chk1 k w := by
  have hk : srcBatch k.val < 4 := srcBatch_lt (k.cast trips1).isLt
  intro a
  rw [off3_eq k hw]
  match a with
  | ⟨0, _⟩ => show srcBatch k.val * 4096 + w.toNat + 1 ≤ 16384; omega
  | ⟨1, _⟩ => show 0 + 2048 ≤ 2048; omega

/-! ## The eight rows of the result -/

theorem inb_row (t : Fin 8) : ∀ a, (![t.val, 0] : Fin 2 → Nat) a + S1x2048.size a ≤ S8x2048.size a := by
  have := t.isLt; intro a; fin_cases a <;> simp <;> omega

/-- The elements of output row `t`. -/
abbrev rowSet (t : Fin 8) : Finset S8x2048.Idx := (Rect.unit (s := S8x2048) ![t.val, 0] S1x2048.size (inb_row t)).set

theorem rows_disjoint (t t' : Fin 8) (h : t ≠ t') : Disjoint (rowSet t) (rowSet t') :=
  Ring.lead_disjoint (s := S8x2048) (0 : Fin 2) 1 (fun t : Fin 8 => (![t.val, 0] : Fin 2 → Nat)) S1x2048.size inb_row
    (fun t => by simp) rfl t t' h

theorem rows_cover : Finset.univ.biUnion rowSet = Finset.univ :=
  Ring.lead_cover (s := S8x2048) (0 : Fin 2) 1 (fun t : Fin 8 => (![t.val, 0] : Fin 2 → Nat)) S1x2048.size inb_row
    (fun t => by simp) (fun t a ha => by fin_cases a <;> first | exact absurd rfl ha | rfl) rfl
    (fun a ha => by fin_cases a <;> first | exact absurd rfl ha | rfl) rfl

/-! ## One row's copy -/

variable {F : FTy → Type}

/-- The row of the result that trip `k` writes and the row of the table it reads, as the kernel slices them. -/
abbrev dstRow (k : Fin k0_t1_loop.trips) : Memref sig .scScalar .hbm S1x2048 .f32 :=
  (Memref.whole main_v1_scs).slice (Rect.unit (s := S8x2048) (k0_off2 k) S1x2048.size (k0_off2_inb k)) (fun _ => rfl)
abbrev srcRow (k : Fin k0_t1_loop.trips) (w : BitVec 32) (h : k0_chk1 k w) : Memref sig .scScalar .hbm S1x2048 .f32 :=
  (Memref.whole main_v0_scs).slice (Rect.unit (s := S16384x2048) (k0_off3 k w) S1x2048.size (k0_off3_inb k w h)) (fun _ => rfl)

/-- Trip `k`'s destination is output row `k`. -/
theorem dstRow_set (k : Fin k0_t1_loop.trips) : (dstRow k).view.set = rowSet (k.cast trips1) := by
  refine (View.set_slice_whole main_v1_scs (Rect.unit (s := S8x2048) (k0_off2 k) S1x2048.size (k0_off2_inb k))).trans ?_
  exact congrArg (fun r : Rect S8x2048 => r.set) (Rect.unit_congr (s := S8x2048) (k0_off2_eq k) (k0_off2_inb k) (inb_row (k.cast trips1)))

/-- On output row `k`, what trip `k`'s copy leaves is the gathered result, whatever the row held. -/
theorem copied (k : Fin k0_t1_loop.trips) (w : S4.Idx → BitVec 32) {v : BitVec 32}
    (hv : v = w (ix1 ⟨k.val % 4, Nat.mod_lt _ (by decide)⟩)) (hw : v.toNat < 4096) (hc : k0_chk1 k v)
    (T : S16384x2048.Idx → Elt F .f32) (fd : S8x2048.Idx → Elt F .f32) :
    ∀ i ∈ rowSet (k.cast trips1), (dstRow k).view.write (Elt F) fd ((srcRow k v hc).view.read (Elt F) T) Finset.univ i
      = gathered T w i := by
  subst hv
  rw [← dstRow_set]
  intro i hi
  obtain ⟨x, -, rfl⟩ := Finset.mem_map.mp hi
  have hk : srcBatch k.val < 4 := srcBatch_lt (k.cast trips1).isLt
  have hx : (x 0).val = 0 := by have : (x 0).val < 1 := (x 0).isLt; omega
  have h0 : ((dstRow k).view.emb x 0).val = k.val := by
    show k0_off2 k 0 + 1 * (x 0).val = _
    rw [k0_off2_eq k, hx]; rfl
  have h1 : ((dstRow k).view.emb x 1).val = (x 1).val := by
    show k0_off2 k 1 + 1 * (x 1).val = _
    rw [k0_off2_eq k]; show 0 + 1 * (x 1).val = _; omega
  rw [View.write_emb_of_mem _ _ (Finset.mem_univ x), View.read_apply]
  show T ((srcRow k _ hc).view.emb x) = T _
  refine congrArg T (funext fun a => Fin.ext ?_)
  match a with
  | ⟨0, _⟩ =>
    show k0_off3 k _ 0 + 1 * (x 0).val = (srcBatch ((dstRow k).view.emb x 0).val * 4096 + (w (ix1 ⟨((dstRow k).view.emb x 0).val % 4, _⟩)).toNat) % 16384
    simp only [h0]
    rw [off3_eq k hw, hx]
    show srcBatch k.val * 4096 + _ + 0 = _
    generalize w (ix1 ⟨k.val % 4, _⟩) = v at hw ⊢
    omega
  | ⟨1, _⟩ =>
    show k0_off3 k (w (ix1 ⟨k.val % 4, Nat.mod_lt _ (by decide)⟩)) 1 + 1 * (x 1).val = ((dstRow k).view.emb x 1).val
    rw [h1, off3_eq k hw]; show 0 + 1 * (x 1).val = _; omega

end Cert.Proof.Gather

end
-- ==== Proof.Body.lean ====
/-
  The kernel's body on SparseCore 0's sequencer, at any float values: the four index words copied into the sequencer's
  scalar memory, eight row copies started on one DMA semaphore (a `Batch`), eight waits of one row's credit each.
  `seq_run` says what the body leaves: the result array at `gathered` of the table and the words, the words as they were.
-/
module

public import proofs.«01_k».proof.Proof.Rows
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds beside the transfers' counters -/

abbrev UH : Type := URounds (GSem nD τ sig) ℕ
abbrev UU : Type := UH × Counters

local notation "𝕄" => MT nD τ sig (HIx 1) (Elt F) ℕ UU ℕ
local notation "EC" => (countersEmb (U := UU))

/-! ## The kernel's memrefs, spelt as the body passes them -/

local notation "tW" => (Memref.whole Cert.KernelIdeal.main_v0_scs : Memref Cert.KernelIdeal.sig Kind.scScalar Space.hbm Cert.KernelIdeal.S16384x2048 EltTy.f32)
local notation "cW" => (Memref.whole Cert.KernelIdeal.main_arg1_scs : Memref Cert.KernelIdeal.sig Kind.scScalar Space.hbm Cert.KernelIdeal.S4 EltTy.i32)
local notation "oW" => (Memref.whole Cert.KernelIdeal.main_v1_scs : Memref Cert.KernelIdeal.sig Kind.scScalar Space.hbm Cert.KernelIdeal.S8x2048 EltTy.f32)
local notation "sW" => (Memref.whole Cert.KernelIdeal.cc0_scratch0 : Memref Cert.KernelIdeal.sig Kind.scScalar Space.smem Cert.KernelIdeal.S4 EltTy.i32)

abbrev 𝒱₀ : Variants := Variants.none

def coordsS (c : Fin (grid0.bound 0)) : grid0.Coords := fun | 0 => c | ⟨_ + 1, h⟩ => absurd h (Nat.not_lt.2 (Nat.le_add_left _ _))

/-- SparseCore 0's sequencer thread. -/
abbrev S0 (d : Dev nD) (h : 0 < grid0.bound 0) : Thread nD τ := S d ((⟨0, h⟩ : Fin (grid0.bound 0)).castLE hcore0)

/-- The units one row's transfer counts. -/
abbrev rowN : ℕ := ((oW : Memref sig Kind.scScalar Space.hbm S8x2048 EltTy.f32).slice (Rect.unit (s := S8x2048) ![0, 0] S1x2048.size (inb_row 0)) (fun _ => rfl)).view.dmaCredit

theorem rowN_pos : 0 < rowN := View.dmaCredit_pos _ (show 0 < S1x2048.numel by decide)

variable [FloatOps F]
variable (d : Dev nD) (h : 0 < grid0.bound 0)

/-- The result's row `t`, held by its own elements at `f`. -/
abbrev rowPts (f : Buf (Elt F) ((oW).view.loc (S0 d h))) (t : Fin 8) : sProp 𝕄 :=
  (oW).view.loc (S0 d h) ↦[rowSet t]{fullShare} f

/-- The result whole is its eight rows. -/
theorem rows_eq (f : Buf (Elt F) ((oW).view.loc (S0 d h))) :
    ((oW).view.loc (S0 d h) ↦{fullShare} f : sProp 𝕄) = bigSep Finset.univ (rowPts d h f) := by
  rw [← pointsTo_biUnion (ℓ := (oW).view.loc (S0 d h)) Finset.univ rowSet (fun t _ t' _ hne => rows_disjoint t t' hne), rows_cover]

variable (Tb : S16384x2048.Idx → Elt F .f32) (w : S4.Idx → BitVec 32)

/-- What the row copies deliver: output row `t` at the gathered result. -/
abbrev delivers (t : Fin 8) : sProp 𝕄 := rowPts (F := F) d h (gathered Tb w) t

/-- The batch of row copies, `j` of them started and `u` units waited for. -/
abbrev rowBatch (j u : ℕ) : sProp 𝕄 :=
  Transfers.Batch (n := 8) EC (S0 d h) (SemLoc.dma (cc0_scratch1).sem) (none : HIx 1) rowN (delivers (F := F) d h Tb w) j u

/-- Before trip `k` of the first loop: `k` copies started, the rows still to be written at what they hold, the table at
    some share, the words in scalar memory. -/
def inv1 (fo : Buf (Elt F) ((oW).view.loc (S0 d h))) (k : Nat) (_ : PUnit) : sProp 𝕄 :=
  iprop(rowBatch d h Tb w k 0
    ∗ (∃ q, (tW).view.loc (S0 d h) ↦{q} Tb)
    ∗ bigSep (Transfers.pending k) (rowPts d h fo)
    ∗ ((sW).view.loc (S0 d h) ↦{fullShare} w))

/-- Before trip `k` of the second loop: all eight copies started, `k` rows' units waited for. -/
def inv2 (O : CellTallies nD τ sig (HIx 1)) (k : Nat) (_ : PUnit) : sProp 𝕄 :=
  iprop(Transfers.MayWaits (S0 d h) (none : HIx 1) O ∗ rowBatch d h Tb w 8 (k * rowN) ∗ ∃ W', owes (S0 d h) O W')

omit [FloatOps F] in
/-- Trip `k`'s load reads word `k mod 4`. -/
theorem word_read (k : Fin k0_t1_loop.trips) (x : S1.Idx) :
    (sW).view.readAt (Elt F) (Rect.unit (s := S4) (k0_off1 k) S1.size (k0_off1_inb k)).toLoadRect w x
      = w (ix1 ⟨k.val % 4, Nat.mod_lt _ (by decide)⟩) := by
  show w _ = w _
  refine congrArg w (funext fun a => Fin.ext ?_)
  have hx : (x 0).val < 1 := (x 0).isLt
  match a with
  | ⟨0, _⟩ => show k0_off1 k 0 + 1 * (x 0).val = k.val % 4; rw [off1_eq]; show k.val % 4 + 1 * (x 0).val = _; omega

omit [FloatOps F] in
/-- Reducing the continuation a rule leaves at a returned value. -/
theorem ret_bind {E : Type → Type} {α β : Type} (a : α) (k : α → Prog E β) : (Prog.ret a).bind k = k a := rfl

theorem seq_run (O : CellTallies nD τ sig (HIx 1)) (W : Waits sig (HIx 1))
    (hw : ∀ j, (w j).toNat < 4096)
    (fo : Buf (Elt F) ((oW).view.loc (S0 d h))) (fs : Buf (Elt F) ((sW).view.loc (S0 d h))) :
    (iprop(Transfers.MayWaits (S0 d h) (none : HIx 1) O
        ∗ ((tW).view.loc (S0 d h) ↦{fullShare} Tb)
        ∗ ((cW).view.loc (S0 d h) ↦{fullShare} w)
        ∗ ((oW).view.loc (S0 d h) ↦{fullShare} fo)
        ∗ ((sW).view.loc (S0 d h) ↦{fullShare} fs)
        ∗ semVal (S0 d h, SemLoc.dma (cc0_scratch1).sem) 0
        ∗ semVal (S0 d h, SemLoc.dma (cc0_scoped0).sem) 0
        ∗ owes (S0 d h) O W) : sProp 𝕄)
      ⊢ wp frame (wpE (defs₀ (F := F)) 𝒱₀ (S0 d h) none) Set.univ
          (cc0_gather_rows (coordsS ⟨0, h⟩) tW (Memref.isWhole_whole _) cW (Memref.isWhole_whole _)
            oW (Memref.isWhole_whole _) sW (Memref.isWhole_whole _) cc0_scratch1 cc0_scoped0)
          fun _ => iprop(((cW).view.loc (S0 d h) ↦{fullShare} w)
            ∗ ((oW).view.loc (S0 d h) ↦{fullShare} gathered Tb w)
            ∗ (∃ f, (sW).view.loc (S0 d h) ↦{fullShare} f)
            ∗ semVal (S0 d h, SemLoc.dma (cc0_scratch1).sem) 0
            ∗ semVal (S0 d h, SemLoc.dma (cc0_scoped0).sem) 0
            ∗ ∃ W', owes (S0 d h) O W') := by
  iintro ⟨#Hmw, Ht, Hc, Ho, Hs, Hv0, Hv1, HO⟩
  sl_unfold [cc0_gather_rows]
  sl_exec
  ihave Hs' := (Entails.of_eq (congrArg (fun g => ((sW).view.loc (S0 d h) ↦{fullShare} g : sProp 𝕄))
      ((View.write_whole_univ cc0_scratch0 fs (seq_run.sl.dma0 w)).trans (show seq_run.sl.dma0 (F := F) w = w by delta seq_run.sl.dma0; rfl)))) $$ Hs
  iapply (fupd_wp Idealize.ShloMosaic.frame (wpE (defs₀ (F := F)) 𝒱₀ (S0 d h) none) Set.univ _ _)
  imod (Transfers.batch_alloc' (Lvl := ℕ) EC (S0 d h) (none : HIx 1) rowN (delivers (F := F) d h Tb w) (sm := SemLoc.dma (cc0_scratch1).sem) (E := Set.univ)) $$ Hv0 with HB
  imodintro
  sl_for (inv1 d h Tb w fo) $$ [Ht Ho Hs' HB]
  case region =>
    intro k _
    unfold inv1
    iintro ⟨HB, ⟨%q, Ht⟩, Hrows, Hs⟩
    sl_exec
    have hr : seq_run.sl.r (F := F) w k = w (ix1 ⟨k.val % 4, Nat.mod_lt _ (by decide)⟩) := by
      delta seq_run.sl.r
      exact word_read w k _
    have hv : (seq_run.sl.r (F := F) w k : BitVec 32).toNat < 4096 := by rw [hr]; exact hw _
    have hc := chk_of_lt k hv
    have hk : k.val < 8 := (k.cast trips1).isLt
    iapply (wp_assume 𝒱₀ (S0 d h) none Set.univ hc)
    ihave Ht2 := ((pointsTo_share (PosShare.mem_left_op_right q)).1) $$ Ht
    icases Ht2 with ⟨Ht, Hu⟩
    ihave Hu2 := ((pointsTo_split_subset (Finset.subset_univ (srcRow k _ hc).view.set)).1) $$ Hu
    icases Hu2 with ⟨Hu, -⟩
    ihave Hrows' := (Entails.of_eq (Transfers.bigSep_pending_step (rowPts d h fo) k.val hk)) $$ Hrows
    icases Hrows' with ⟨Hrow, Hrows⟩
    iapply (Transfers.wp_dmaBatch EC 𝒱₀ (S0 d h) none (src := srcRow k _ hc) (dst := dstRow k) (none : HIx 1) rowN rfl
      (Sd := rowSet (k.cast trips1)) (dstRow_set k).le (D := delivers (F := F) d h Tb w) (j := k.val) (u := 0) hk (Nat.zero_le _)
      (sep_elim_left.trans (Entails.of_eq (pointsTo_congr (copied k w hr hv hc Tb fo))))) $$ [Hu Hrow HB]
    · isplitl [Hu]; · iexact Hu
      isplitl [Hrow]; · iexact Hrow
      iexact HB
    iintro HB
    simp only [ret_bind]
    sl_step
    isplitl [HB]; · iexact HB
    isplitl [Ht]; · iexists _; iexact Ht
    isplitl [Hrows]; · iexact Hrows
    iexact Hs
  · unfold inv1
    isplitl [HB]; · iexact HB
    isplitl [Ht]; · iexists _; iexact Ht
    isplitl [Ho]
    · irw [Transfers.pending_zero]
      iapply (Entails.of_eq (rows_eq d h fo))
      iexact Ho
    iexact Hs'
  iintro %_ HI
  ihave HI' := (show inv1 (F := F) d h Tb w fo k0_t1_loop.trips ⟨⟩ ⊢ iprop(rowBatch (F := F) d h Tb w 8 (0 * rowN)
      ∗ ((sW).view.loc (S0 d h) ↦{fullShare} w)) from by
    unfold inv1
    rw [trips1, Nat.zero_mul]
    iintro ⟨HB, -, -, Hs⟩
    isplitl [HB] <;> iassumption) $$ HI
  icases HI' with ⟨HB, Hs⟩
  sl_exec
  sl_for (inv2 d h Tb w O) $$ [Hmw HB HO]
  case region =>
    intro k _
    unfold inv2
    iintro ⟨#Hmw, HB, %W', HO⟩
    have hk : k.val < 8 := (k.cast trips2).isLt
    ihave Hm := (Transfers.MayWaits.elim (SemLoc.dma (cc0_scratch1).sem)) $$ Hmw
    iapply (Transfers.wp_waitBatchMulO EC 𝒱₀ (S0 d h) none (none : HIx 1) (N := rowN)
      (dstw := (oW).slice (Rect.unit (s := S8x2048) (k0_off4 k) S1x2048.size (k0_off4_inb k)) (fun _ => rfl)) 1 (Nat.one_mul rowN).symm
      (D := delivers (F := F) d h Tb w) (j := 8) (u := k.val * rowN) (by nlinarith [rowN_pos])) $$ [HB HO Hm]
    · isplitl [HB]; · iexact HB
      isplitl [HO]; · iexact HO
      iexact Hm
    iintro ⟨HB, HO⟩
    simp only [ret_bind]
    sl_step
    isplitr; · iexact Hmw
    isplitl [HB]
    · iapply (Entails.of_eq (congrArg (rowBatch (F := F) d h Tb w 8) (show k.val * rowN + 1 * rowN = (k.val + 1) * rowN from (Nat.add_mul _ _ _).symm)))
      iexact HB
    iexists _; iexact HO
  · unfold inv2
    isplitr; · iexact Hmw
    isplitl [HB]; · iexact HB
    iexists _; iexact HO
  iintro %_ HI
  ihave HI' := (show inv2 (F := F) d h Tb w O k0_t2_loop.trips ⟨⟩ ⊢ iprop(rowBatch (F := F) d h Tb w 8 (rowN * 8)
      ∗ ∃ W', owes (S0 d h) O W') from by
    unfold inv2
    rw [trips2, Nat.mul_comm]
    iintro ⟨-, HB, HO⟩
    isplitl [HB] <;> iassumption) $$ HI
  icases HI' with ⟨HB, %W', HO⟩
  iapply (fupd_wp Idealize.ShloMosaic.frame (wpE (defs₀ (F := F)) 𝒱₀ (S0 d h) none) Set.univ _ _)
  imod (Transfers.batch_collect' EC (S0 d h) rowN_pos) $$ HB with ⟨HD, Hv0⟩
  imodintro
  sl_exec
  sl_step
  isplitl [Hc]; · iexact Hc
  isplitl [HD]
  · iapply (Entails.of_eq (rows_eq (F := F) d h (gathered Tb w)).symm)
    iexact HD
  isplitl [Hs]; · iexists _; iexact Hs
  isplitl [Hv0]; · iexact Hv0
  isplitl [Hv1]; · iexact Hv1
  iexists _; iexact HO

end Cert.Proof.Gather

end
-- ==== Proof.Run.lean ====
/-
  The kernel program's run, at any float values: @main's reshape on the TensorCore, the one call of the scalar-subcore
  kernel on SparseCore 0 (`Body.lean`), and what they leave (`run_main`): the result at `gathered` of the flattened hidden
  states and the index words, both arguments as they were, every semaphore counter back at zero.
-/
module

public import proofs.«01_k».proof.Proof.Body

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch semaphores are distinct and unscoped, no buffer is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ
local notation "tW" => (Memref.whole Cert.KernelIdeal.main_v0_scs : Memref Cert.KernelIdeal.sig Kind.scScalar Space.hbm Cert.KernelIdeal.S16384x2048 EltTy.f32)
local notation "cW" => (Memref.whole Cert.KernelIdeal.main_arg1_scs : Memref Cert.KernelIdeal.sig Kind.scScalar Space.hbm Cert.KernelIdeal.S4 EltTy.i32)
local notation "oW" => (Memref.whole Cert.KernelIdeal.main_v1_scs : Memref Cert.KernelIdeal.sig Kind.scScalar Space.hbm Cert.KernelIdeal.S8x2048 EltTy.f32)
local notation "sW" => (Memref.whole Cert.KernelIdeal.cc0_scratch0 : Memref Cert.KernelIdeal.sig Kind.scScalar Space.smem Cert.KernelIdeal.S4 EltTy.i32)

/-- The handshakes' rounds, the left factor of the resource algebra. -/
abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev hLoc (d : Dev nD) : Loc nD τ sig := (SparseCore.T d).loc main_arg0
abbrev cLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev sLoc (d : Dev nD) (c : Fin τ.nSC) : Loc nD τ sig := (S d c).loc cc0_scratch0

/-- The hidden states as one table of rows. -/
abbrev table (d : Dev nD) : S16384x2048.Idx → Elt F .f32 :=
  shapeCast S16384x2048 (m (hLoc d) : S4x4096x2048.Idx → Elt F .f32) shapeCasts_S4x4096x2048_S16384x2048
/-- The index words. -/
abbrev words (d : Dev nD) : S4.Idx → BitVec 32 := m (cLoc d)
/-- What the call leaves in the result. -/
abbrev outV (d : Dev nD) : S8x2048.Idx → Elt F .f32 := gathered (table m d) (words m d)

/-- Every index word of every device is the number of a row. -/
def InRange : Prop := ∀ d j, (words m d j).toNat < 4096

variable [FloatOps F]

abbrev hPts (d : Dev nD) : sProp 𝕄 := hLoc d ↦{fullShare} m (hLoc d)
abbrev cPts (d : Dev nD) : sProp 𝕄 := cLoc d ↦{fullShare} m (cLoc d)
abbrev tPts (d : Dev nD) : sProp 𝕄 := tLoc d ↦{fullShare} table m d
abbrev oPts (d : Dev nD) (f : Buf (Elt F) (oLoc d)) : sProp 𝕄 := oLoc d ↦{fullShare} f

/-- The call's payloads: the table, the words and the result to SparseCore 0's sequencer; the words and the result, now
    gathered, back. -/
def P : (K (F := F)).Pay (nD := nD) (Val := Elt F) (Name := ℕ) (U := UU) where
  st := fun _ d _ => iprop(tPts m d ∗ cPts m d ∗ ∃ f, oPts d f)
  dn := fun _ d _ => iprop(cPts m d ∗ oPts d (outV m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own cells and buffers -/

section Body

variable (d : Dev nD)

/-- The two DMA cells the body names, as a family. -/
abbrev dcell (c : Fin τ.nSC) (k : Fin 2) : GSem nD τ sig := (S d c, .dma (⟨k.val, k.isLt⟩ : DmaSem sig))
abbrev cells0 (c : Fin τ.nSC) : sProp 𝕄 :=
  iprop(semVal (S d c, SemLoc.dma (cc0_scratch1).sem) 0 ∗ semVal (S d c, SemLoc.dma (cc0_scoped0).sem) 0)

omit [FloatOps F] in
theorem dcell_mem (c : Fin τ.nSC) (k : Fin 2) : dcell d c k ∈ ownCells (S d c) :=
  mem_ownCells.mpr ⟨rfl, (show ∀ s : DmaSem sig, (SemLoc.dma s : SemLoc sig).isScoped .scScalar = true by decide) _⟩

omit [FloatOps F] in
/-- The sequencer's own cells at zero: the two the body names, and the rest. -/
theorem ownSems0_S (c : Fin τ.nSC) :
    (ownSems0 (S d c) : sProp 𝕄)
      = iprop(cells0 d c ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 2)) = {0, 1} by decide, SparseCore.bigSep_insert' (by decide), bigSep_singleton]
  rfl

omit [FloatOps F] in
/-- The scalar scratch is among the sequencer's own buffers. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

omit [FloatOps F] in
/-- The arrays as the sequencer's memrefs address them are the TensorCore's arrays. -/
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
theorem pts_c (c : Fin τ.nSC) (f : Buf (Elt F) (cLoc d)) :
    ((cW).view.loc (S d c) ↦{fullShare} f : sProp 𝕄) = cLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) (sLoc d c)) :
    ((sW).view.loc (S d c) ↦{fullShare} f : sProp 𝕄) = sLoc d c ↦{fullShare} f := by
  simp only [Memref.view_whole, View.set_whole]

/-- The kernel on SparseCore 0's sequencer in the launch theorem's shape: its scoped buffers and cells opened around
    `seq_run` and packed again. -/
theorem body₀ (hw : InRange m) (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ (tPts m d ∗ cPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0_gather_rows (coordsS ⟨0, h⟩) tW (Memref.isWhole_whole _) cW (Memref.isWhole_whole _)
            oW (Memref.isWhole_whole _) sW (Memref.isWhole_whole _) cc0_scratch1 cc0_scoped0)
          fun _ => iprop((cPts m d ∗ oPts d (outV m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Ht, Hc, %fo, Ho⟩, ⟨⟨⟨%fs, Hs⟩, Hbufs⟩, Htiles⟩, ⟨⟨⟨Hv0, Hv1⟩, Hsems⟩, HtileSems⟩, HO⟩
  ihave Hmw := ((K (F := F)).mayWaits_none (thr := S0 d h) hO) $$ Hlv
  ihave Ht' := (Entails.of_eq (pts_t (F := F) d _ _).symm) $$ Ht
  ihave Hc' := (Entails.of_eq (pts_c (F := F) d _ _).symm) $$ Hc
  ihave Ho' := (Entails.of_eq (pts_o (F := F) d _ _).symm) $$ Ho
  ihave Hs' := (Entails.of_eq (pts_s (F := F) d _ _).symm) $$ Hs
  iapply (wp_wand_r Idealize.ShloMosaic.frame (wpE (defs₀ (F := F)) 𝒱₀ (S0 d h) none) Set.univ)
  isplitl [Ht' Hc' Ho' Hs' Hv0 Hv1 HO]
  · iapply (seq_run d h (table m d) (words m d) O W (hw d) _ _)
    isplitr; · iexact Hmw
    isplitl [Ht']; · iexact Ht'
    isplitl [Hc']; · iexact Hc'
    isplitl [Ho']; · iexact Ho'
    isplitl [Hs']; · iexact Hs'
    isplitl [Hv0]; · iexact Hv0
    isplitl [Hv1]; · iexact Hv1
    iexact HO
  iintro %_ ⟨Hc', Ho', ⟨%f2, Hs'⟩, Hv0, Hv1, %W', HO⟩
  isplitl [Hc' Ho']
  · isplitl [Hc']; · iapply (Entails.of_eq (pts_c (F := F) d _ _)); iexact Hc'
    iapply (Entails.of_eq (pts_o (F := F) d _ _)); iexact Ho'
  isplitl [Hs' Hbufs Htiles]
  · isplitl [Hs' Hbufs]
    · isplitl [Hs']; · iexists _; iapply (Entails.of_eq (pts_s (F := F) d _ _)); iexact Hs'
      iexact Hbufs
    iexact Htiles
  isplitl [Hv0 Hv1 Hsems HtileSems]
  · isplitl [Hv0 Hv1 Hsems]
    · isplitl [Hv0 Hv1]
      · isplitl [Hv0]; · iexact Hv0
        iexact Hv1
      iexact Hsems
    iexact HtileSems
  iexists W'; isplitr
  · ipureintro; intro p _
    rcases p.2 with _ | q
    · exact .inr (.inl rfl)
    · exact .inr (.inr (congrArg some (Subsingleton.elim q 0)))
  · iexact HO

end Body

/-! ## The launch theorem's obligation -/

theorem defs₀_scalar (c : Fin τ.nSC) :
    defs₀ (F := F) (.scScalar c) 0 ()
      = SparseCore.onCore hcore0 (fun c => cc0_gather_rows (coordsS c) tW (Memref.isWhole_whole _) cW (Memref.isWhole_whole _)
          oW (Memref.isWhole_whole _) sW (Memref.isWhole_whole _) cc0_scratch1 cc0_scoped0) ⟨⟩ c := rfl

/-- SparseCore 0's sequencer runs the kernel's body. -/
theorem scalarObl (hw : InRange m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d hw facts h O W hO

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev h' : DevRef τ sig := Proc.devRef .tc (main_arg0 : Ref sig .tc)
abbrev c' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev opR : HloOp τ sig (Elt F) :=
  StableHlo.reshape main_arg0 main_v0 (rfl : (.f32 : EltTy) = .f32) shapeCasts_S4x4096x2048_S16384x2048

/-- The TensorCore's arrays. -/
abbrev S4' : Finset (DevRef τ sig) := {h', c', t', o'}

omit [FloatOps F] in
theorem held_S4' (d : Dev nD) (W : Valuation τ sig (Elt F)) :
    (held (T d) S4' W : sProp 𝕄)
      = iprop((hLoc d ↦{fullShare} W h') ∗ (cLoc d ↦{fullShare} W c') ∗ (tLoc d ↦{fullShare} W t') ∗ oLoc d ↦{fullShare} W o') := by
  unfold held S4'
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((hLoc d ↦{fullShare} W main_arg0) ∗ (cLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4' (V0 m d) := by
  rw [unscopedBufs_eq, held_S4']; rfl

/-- The four arrays after the reshape: the arguments as launched, the table. -/
theorem held_V1 (d : Dev nD) :
    (held (T d) S4' ((opR (F := F)).result (V0 m d)) : sProp 𝕄)
      = iprop(hPts m d ∗ cPts m d ∗ tPts m d ∗ oPts d ((opR (F := F)).result (V0 m d) o')) := by
  rw [held_S4', (opR (F := F)).result_of_not_mem (V0 m d) (b := h') (show h' ∉ ({t'} : Finset (DevRef τ sig)) by decide),
    (opR (F := F)).result_of_not_mem (V0 m d) (b := c') (show c' ∉ ({t'} : Finset (DevRef τ sig)) by decide),
    show (opR (F := F)).result (V0 m d) t' = table m d from StableHlo.reshape_result _ _ _ _ _ _ _]
  rfl

theorem st0_eq (d : Dev nD) : (bigSep Finset.univ fun c : Fin ((K (F := F)).nCore 0) => (P m).st 0 d c) = iprop(tPts m d ∗ cPts m d ∗ ∃ f, oPts d f) :=
  bigSep_univ_of_subsingleton (0 : Fin 1)
theorem dn0_eq (d : Dev nD) : (bigSep Finset.univ fun c : Fin ((K (F := F)).nCore 0) => (P m).dn 0 d c) = iprop(cPts m d ∗ oPts d (outV m d)) :=
  bigSep_univ_of_subsingleton (0 : Fin 1)

theorem hR : (opR (F := F)).bufs ⊆ S4' := show ({h', t'} : Finset (DevRef τ sig)) ⊆ S4' by decide

/-- What @main leaves the claims: both arguments at their launch contents, the result gathered. -/
abbrev FIN (d : Dev nD) : sProp 𝕄 := iprop(hPts m d ∗ cPts m d ∗ oPts d (outV m d))

/-- @main on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4') hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hh, Hc, Ht, Ho⟩
  iapply ((K (F := F)).wp_run (D (F := F)) 𝒱 (EH := EH) (P := P m) κ d 0) $$ [Hst Hh Hc Ht Ho Hb Hts]
  isplitr; · iexact Hctx
  isplitl [Hst]; · iexact Hst
  isplitl [Hc Ht Ho]
  · rw [st0_eq]
    isplitl [Ht]; · iexact Ht
    isplitl [Hc]; · iexact Hc
    iexists _; iexact Ho
  iintro ⟨Hst, Hdn⟩
  ihave Hdn' := (Entails.of_eq (dn0_eq m d)) $$ Hdn
  icases Hdn' with ⟨Hc, Ho⟩
  imodintro
  isplitl [Hst]; · iexact Hst
  isplitr [Hb Hts]
  · isplitl [Hh]; · iexact Hh
    isplitl [Hc]; · iexact Hc
    iexact Ho
  isplitl [Hb] <;> iassumption

/-- What the claims read of device `d`'s final state. -/
def fq (d : Dev nD) (s' : Phys nD τ sig (Elt F)) : Prop :=
  s'.mem.mem (oLoc d) = outV m d ∧ s'.mem.mem (hLoc d) = m (hLoc d) ∧ s'.mem.mem (cLoc d) = m (cLoc d)

theorem hfin (d : Dev nD) (s' : Phys nD τ sig (Elt F)) : iprop(FIN m d ∗ SI s') ⊢ (⌜fq m d s'⌝ : sProp 𝕄) := by
  iintro ⟨⟨Hh, Hc, Ho⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%hh, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (SI_pointsTo_agree (st := s') (ℓ := oLoc d) (I := Finset.univ) (q := fullShare) (f := outV m d)) $$ [HSI Ho]
  · isplitl [HSI] <;> iassumption
  icases H with %ho
  ipureintro
  exact ⟨funext fun i => ho i (Finset.mem_univ i), funext fun i => hh i (Finset.mem_univ i), funext fun i => hc i (Finset.mem_univ i)⟩

/-! ## The program's run -/

def QC : PUnit × MemSt nD τ sig (Elt F) → Prop := fun r =>
  (∀ c : Dev nD, r.2.mem (oLoc c) = outV m c ∧ r.2.mem (hLoc c) = m (hLoc c) ∧ r.2.mem (cLoc c) = m (cLoc c)) ∧ r.2.sem = fun _ => 0

/-- From a memory whose index words are row numbers, every run of the program ends with the gathered rows in the result,
    both arguments unchanged and every semaphore counter at zero. -/
theorem run_main [∀ e, Nonempty (Elt F e)] (hw : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hw)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Pre.lean ====
/-
  The range predicate read back: when the printed `in_range` is 1, every index word is below 4096 as a natural number.
-/
module

public import proofs.«01_k».proof.Proof.Run
public import proofs.«01_k».proof.Proof.Gen.Pre_in_range
public import Idealize.ShloMosaic.Lib.ReduceAll
public import Idealize.ShloMosaic.Lib.WordArith
public import Idealize.ShloMosaic.Lib.StableHlo.Predicate

@[expose] public section

noncomputable section

namespace Cert.Proof.Gather

open Idealize.ShloMosaic

/-- A word that is at least 0 and less than 4096, both compared as signed words, is a natural number below 4096. -/
theorem lt_of_bits (v : BitVec 32) (e : IntOp.andi (IntOp.cmpi .sge v 0#32) (IntOp.cmpi .slt v 4096#32) = 1#1) :
    v.toNat < 4096 := by
  simp only [IntOp.cmpi, WordArith.andi_ofBool, StableHlo.Predicate.ofBool_eq_one_iff, Bool.and_eq_true, BitVec.sle_eq_decide, BitVec.slt_eq_decide,
    decide_eq_true_eq, BitVec.toInt_eq_toNat_cond, BitVec.toNat_ofNat, Nat.reducePow, Nat.reduceMod] at e
  omega

/-- Where the printed predicate `in_range` is 1, every index word is below 4096. -/
theorem lt_of_pre {F : FTy → Type} [FloatOps F] (x : FVec F Cert.Pre_in_range.S4x4096x2048 .f32)
    (w : IVec Cert.Pre_in_range.S4 32) (h : Cert.Pre_in_range.fn x w = fun _ => 1#1) (j : Cert.Pre_in_range.S4.Idx) :
    (w j).toNat < 4096 := by
  haveI : Subsingleton Cert.Pre_in_range.S_.Idx := ⟨fun a b => funext fun i => i.elim0⟩
  exact lt_of_bits _ (Host.reduce_andi_all _ _ Cert.Pre_in_range.Gen.reducesTo_S4_S_d0 Cert.Pre_in_range.Gen.h_S_
    (fun i => i.elim0) (congrFun h (fun i => i.elim0)) j)

end Cert.Proof.Gather

end
-- ==== Proof.RefValue.lean ====
/-
  The reference's result as mathematics: for index words below 4096 the reference's two gathers, of the two halves of
  the hidden states at `(batch, word)`, stacked, are `gathered` of the flattened hidden states (`refOut_eq`). A start
  index is clamped into its axis, so in a half of two batches every batch from 1 on reads batch 1.
-/
module

public import proofs.«01_k».proof.Proof.Pre
public import proofs.«01_k».proof.Proof.Gen.ReferenceIdeal
public import Idealize.ShloMosaic.Lib.ValueIdx
public import Idealize.ShloMosaic.Lib.Pipeline.Value

@[expose] public section

noncomputable section

namespace Cert.Proof.RefValue

open Cert.ReferenceIdeal Cert.ReferenceIdeal.Gen
open Idealize.ShloMosaic Idealize.ShloMosaic.ValueIdx
open Cert.Proof.Gather (srcBatch srcBatch_lt gathered)

variable {α : Type}

/-! ## The gather read at an index -/

/-- The reference's gather read at `(p, h)`: the operand at the two start indices of row `p`, each read signed and
    clamped into its axis, and column `h`. -/
theorem gather_apply (x : S2x4096x2048.Idx → α) (idx : IVec S4x2 32) (y : S4x2048.Idx) :
    Host.gather gather_S2x4096x2048_S4x2_S4x2048_1_01_n_n_01_1_112048 x idx y
      = x (ix3 (n0 := 2) (n1 := 4096) (n2 := 2048)
          ⟨min (idx (ix2 (n0 := 4) (n1 := 2) (y 0) 0)).toInt.toNat 1, by omega⟩
          ⟨min (idx (ix2 (n0 := 4) (n1 := 2) (y 0) 1)).toInt.toNat 4095, by omega⟩ (y 1)) := by
  unfold Host.gather
  congr 1
  funext a
  refine Fin.ext ?_
  show GatherDims.start _ y idx a + GatherDims.batchCoord _ y a + GatherDims.offCoord _ y a = _
  rw [GatherDims.batchCoord_eq_zero _ _ _ (fun h => by cases h), Nat.add_zero]
  match a with
  | ⟨0, _⟩ =>
    rw [GatherDims.offCoord_eq_zero _ _ _ (fun h => ((GatherDims.mem_sKept _ _).mp h).1 (List.mem_cons_self ..)), Nat.add_zero]
    unfold GatherDims.start
    refine (dif_pos (show (0 : Fin 3) ∈ ([0, 1] : List (Fin 3)) by decide)).trans ?_
    show min (idx _).toInt.toNat 1 = min (idx _).toInt.toNat 1
    congr 4
    funext b; refine Fin.ext ?_
    match b with
    | ⟨0, _⟩ => rfl
    | ⟨1, _⟩ => rfl
  | ⟨1, _⟩ =>
    rw [GatherDims.offCoord_eq_zero _ _ _ (fun h => ((GatherDims.mem_sKept _ _).mp h).1
      (List.mem_cons_of_mem _ (List.mem_cons_self ..))), Nat.add_zero]
    unfold GatherDims.start
    refine (dif_pos (show (1 : Fin 3) ∈ ([0, 1] : List (Fin 3)) by decide)).trans ?_
    show min (idx _).toInt.toNat 4095 = min (idx _).toInt.toNat 4095
    congr 4
    funext b; refine Fin.ext ?_
    match b with
    | ⟨0, _⟩ => rfl
    | ⟨1, _⟩ => rfl
  | ⟨2, _⟩ =>
    unfold GatherDims.start
    refine (congrArg (· + _) (dif_neg (show (2 : Fin 3) ∉ ([0, 1] : List (Fin 3)) by decide))).trans ?_
    exact Nat.zero_add _

/-! ## The start indices -/

/-- A word with `n` added where it is negative: jnp's reading of a negative index. -/
def wrapped (n : BitVec 32) (v : IVec S4 32) : IVec S4 32 :=
  select (cmpi .slt v (broadcastInDim S4 ![] bcast_S_S4 (constantI S_ 32 0#32)))
    (addi v (broadcastInDim S4 ![] bcast_S_S4 (constantI S_ 32 n))) v

/-- A word below 2³¹ is not negative: it is itself. -/
theorem wrapped_apply (n : BitVec 32) (v : IVec S4 32) (j : S4.Idx) (h : (v j).toNat < 2 ^ 31) : wrapped n v j = v j := by
  have hn : ¬ IntOp.cmpi .slt (v j) 0#32 = 1#1 := fun e => by
    have := (StableHlo.Predicate.slt_iff_toNat h (by decide)).mp e
    simp at this
  show (if IntOp.cmpi .slt (v j) 0#32 = 1#1 then _ else v j) = v j
  exact if_neg hn

/-- The column the reference reads the class indices through: the words as a `[4, 1]` array, flattened again. -/
def column (w : IVec S4 32) : IVec S4 32 := shapeCast _ (broadcastInDim S4x1 ![0] bcast_S4_S4x1_0 w) shapeCasts_S4x1_S4

/-- A vector made a column, read at row `p`. -/
theorem col_apply (v : S4.Idx → α) (p : Fin 4) : broadcastInDim S4x1 ![0] bcast_S4_S4x1_0 v (ix2 p 0) = v (ix1 p) := by
  unfold broadcastInDim
  congr 1
  funext a
  match a with
  | ⟨0, _⟩ => rfl

/-- Making the words a column and flattening it again changes nothing. -/
theorem column_eq (w : IVec S4 32) (p : Fin 4) : column w (ix1 p) = w (ix1 p) := by
  unfold column
  rw [shapeCast_apply _ shapeCasts_S4x1_S4 (ix1 p) (ix2 p 0) (by
    rw [Shape.rowMajor_val_one, Shape.rowMajor_val_two]; simp)]
  exact col_apply w p

/-- The start indices: row `p` is `(p, word p)`, each component wrapped. -/
def starts (w : IVec S4 32) : IVec S4x2 32 :=
  concatenate S4x2 1 [⟨S4x1, broadcastInDim S4x1 ![0] bcast_S4_S4x1_0 (wrapped 2#32 (iotaInDim S4 32 0))⟩,
    ⟨S4x1, broadcastInDim S4x1 ![0] bcast_S4_S4x1_0 (wrapped 4096#32 (column w))⟩] concatenates_S4x1_S4x1_S4x2_d1

/-- The first start index of row `p` is `p`. -/
theorem starts_zero (w : IVec S4 32) (p : Fin 4) : starts w (ix2 p 0) = BitVec.ofNat 32 p.val := by
  unfold starts
  rw [concatenate_pair_apply_left (t := S4x2) (s₁ := S4x1) (s₂ := S4x1) 1 _ _ concatenates_S4x1_S4x1_S4x2_d1 (ix2 p 0) rfl
    (ix2 p 0) (fun b => by match b with | ⟨0, _⟩ => rfl | ⟨1, _⟩ => rfl), col_apply]
  refine (wrapped_apply _ _ _ ?_).trans rfl
  have := p.isLt
  show (BitVec.ofNat 32 p.val).toNat < _
  rw [BitVec.toNat_ofNat]; omega

/-- The second start index of row `p` is word `p`. -/
theorem starts_one (w : IVec S4 32) (hw : ∀ j, (w j).toNat < 4096) (p : Fin 4) : starts w (ix2 p 1) = w (ix1 p) := by
  unfold starts
  rw [concatenate_pair_apply_right (t := S4x2) (s₁ := S4x1) (s₂ := S4x1) 1 _ _ concatenates_S4x1_S4x1_S4x2_d1 (ix2 p 1) rfl rfl
    (ix2 p 0) (fun b hb => by match b with | ⟨0, _⟩ => rfl | ⟨1, _⟩ => exact absurd rfl hb) rfl, col_apply]
  have e := column_eq w p
  have := hw (ix1 p)
  exact (wrapped_apply _ _ _ (by rw [e]; omega)).trans e

/-! ## One half, and the two stacked -/

/-- The gather of a half of the hidden states, at `(p, h)`: batch `min p 1` of the half, row `word p`, column `h`. -/
theorem half_apply (x : S2x4096x2048.Idx → α) (w : IVec S4 32) (hw : ∀ j, (w j).toNat < 4096) (y : S4x2048.Idx) :
    Host.gather gather_S2x4096x2048_S4x2_S4x2048_1_01_n_n_01_1_112048 x (starts w) y
      = x (ix3 (n0 := 2) (n1 := 4096) (n2 := 2048) ⟨min (y 0).val 1, by omega⟩ ⟨(w (ix1 (n := 4) (y 0))).toNat, hw _⟩ (y 1)) := by
  have hp : (y 0).val < 4 := (y 0).isLt
  have hv := hw (ix1 (n := 4) (y 0))
  rw [gather_apply]
  congr 1
  refine congrArg₂ (fun a b => ix3 (n0 := 2) (n1 := 4096) (n2 := 2048) a b (y 1)) (Fin.ext ?_) (Fin.ext ?_)
  · show min (starts w (ix2 (n0 := 4) (n1 := 2) (y 0) 0)).toInt.toNat 1 = min (y 0).val 1
    rw [starts_zero w (y 0), StableHlo.Predicate.toInt_ofNat_small _ (by omega)]; rfl
  · show min (starts w (ix2 (n0 := 4) (n1 := 2) (y 0) 1)).toInt.toNat 4095 = _
    rw [starts_one w hw (y 0), StableHlo.Predicate.toInt_eq_toNat_of_lt (by omega)]; simp only [Int.toNat_natCast]; omega

/-- The reference's result: the gathers of the first and the second half of the hidden states, stacked. -/
def refOut (x : S4x4096x2048.Idx → α) (w : IVec S4 32) : S8x2048.Idx → α :=
  concatenate S8x2048 0
    [⟨S4x2048, Host.gather gather_S2x4096x2048_S4x2_S4x2048_1_01_n_n_01_1_112048
        (extractStridedSlice S2x4096x2048 ![0, 0, 0] x slices_S4x4096x2048_S2x4096x2048_0_0_0) (starts w)⟩,
     ⟨S4x2048, Host.gather gather_S2x4096x2048_S4x2_S4x2048_1_01_n_n_01_1_112048
        (extractStridedSlice S2x4096x2048 ![2, 0, 0] x slices_S4x4096x2048_S2x4096x2048_2_0_0) (starts w)⟩]
    concatenates_S4x2048_S4x2048_S8x2048_d0

/-- The reference's result read at `(r, h)`: batch `srcBatch r`, row `word (r mod 4)`, column `h`. -/
theorem refOut_apply (x : S4x4096x2048.Idx → α) (w : IVec S4 32) (hw : ∀ j, (w j).toNat < 4096) (i : S8x2048.Idx) :
    refOut x w i = x (ix3 (n0 := 4) (n1 := 4096) (n2 := 2048) ⟨srcBatch (i 0).val, srcBatch_lt (i 0).isLt⟩
      ⟨(w (ix1 ⟨(i 0).val % 4, Nat.mod_lt _ (by decide)⟩)).toNat, hw _⟩ (i 1)) := by
  have h8 : (i 0).val < 8 := (i 0).isLt
  unfold refOut
  by_cases hlt : (i 0).val < 4
  · have em : (⟨(i 0).val, hlt⟩ : Fin 4) = ⟨(i 0).val % 4, Nat.mod_lt _ (by decide)⟩ := Fin.ext (Nat.mod_eq_of_lt hlt).symm
    rw [concatenate_pair_apply_left (t := S8x2048) (s₁ := S4x2048) (s₂ := S4x2048) 0 _ _ concatenates_S4x2048_S4x2048_S8x2048_d0
      i rfl (ix2 (n0 := 4) (n1 := 2048) ⟨(i 0).val, hlt⟩ (i 1)) (fun b => by match b with | ⟨0, _⟩ => rfl | ⟨1, _⟩ => rfl),
      half_apply _ w hw]
    unfold extractStridedSlice
    congr 1
    funext a
    refine Fin.ext ?_
    match a with
    | ⟨0, _⟩ => show 0 + min (i 0).val 1 = srcBatch (i 0).val; unfold srcBatch; omega
    | ⟨1, _⟩ => show 0 + (w (ix1 ⟨(i 0).val, hlt⟩)).toNat = (w (ix1 _)).toNat; rw [Nat.zero_add, em]
    | ⟨2, _⟩ => exact Nat.zero_add _
  · have hlt' : (i 0).val - 4 < 4 := by omega
    have em : (⟨(i 0).val - 4, hlt'⟩ : Fin 4) = ⟨(i 0).val % 4, Nat.mod_lt _ (by decide)⟩ := Fin.ext (by show (i 0).val - 4 = (i 0).val % 4; omega)
    rw [concatenate_pair_apply_right (t := S8x2048) (s₁ := S4x2048) (s₂ := S4x2048) 0 _ _ concatenates_S4x2048_S4x2048_S8x2048_d0
      i rfl rfl (ix2 (n0 := 4) (n1 := 2048) ⟨(i 0).val - 4, hlt'⟩ (i 1))
      (fun b hb => by match b with | ⟨0, _⟩ => exact absurd rfl hb | ⟨1, _⟩ => rfl)
      (by show (i 0).val - 4 + 4 = (i 0).val; omega),
      half_apply _ w hw]
    unfold extractStridedSlice
    congr 1
    funext a
    refine Fin.ext ?_
    match a with
    | ⟨0, _⟩ => show 2 + min ((i 0).val - 4) 1 = srcBatch (i 0).val; unfold srcBatch; omega
    | ⟨1, _⟩ => show 0 + (w (ix1 ⟨(i 0).val - 4, hlt'⟩)).toNat = (w (ix1 _)).toNat; rw [Nat.zero_add, em]
    | ⟨2, _⟩ => exact Nat.zero_add _

/-- The flattened hidden states read at row `b * 4096 + r`: batch `b`, row `r`. -/
theorem table_apply (x : S4x4096x2048.Idx → α) (h : S4x4096x2048.ShapeCasts Cert.KernelIdeal.S16384x2048) (b : Fin 4)
    (r : Fin 4096) (c : Fin 2048) (k : Fin 16384) (hk : k.val = b.val * 4096 + r.val) :
    shapeCast Cert.KernelIdeal.S16384x2048 x h (ix2 k c) = x (ix3 b r c) :=
  shapeCast_apply x h _ _ (by
    rw [Shape.rowMajor_val_two, Shape.rowMajor_val_three]
    show _ = k.val * 2048 + c.val
    rw [hk]
    show (b.val * 4096 + r.val) * 2048 + c.val = _
    rfl)

/-- For words below 4096 the reference's result is the kernel's: `gathered` of the flattened hidden states. -/
theorem refOut_eq (x : S4x4096x2048.Idx → α) (w : IVec S4 32) (hw : ∀ j, (w j).toNat < 4096)
    (h : S4x4096x2048.ShapeCasts Cert.KernelIdeal.S16384x2048) :
    refOut x w = gathered (shapeCast Cert.KernelIdeal.S16384x2048 x h) w := by
  funext i
  rw [refOut_apply x w hw i]
  have hb := srcBatch_lt (t := (i 0).val) (i 0).isLt
  have hv := hw (ix1 ⟨(i 0).val % 4, Nat.mod_lt _ (by decide)⟩)
  exact (table_apply x h _ _ (i 1) _ (Nat.mod_eq_of_lt (by
    show srcBatch (i 0).val * 4096 + (w (ix1 _)).toNat < 16384
    omega))).symm

end Cert.Proof.RefValue

end
-- ==== Proof.lean ====
/-
  The proof of `Cert.Claim` (proofs.«01_k».proof.Defs), assembled: the run of the kernel program at any float values
  (Proof/Run.lean) gives both kernel frames and the kernel's side of both value claims; the reference's value
  (Proof/RefValue.lean) gives the other side. Both value claims are the same statement about rows moved, at bit patterns
  and at extended reals.
-/
module

public import proofs.«01_k».proof.Defs
public import proofs.«01_k».proof.Proof.RefValue
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem
open Cert.Proof.Gather (run_main outV InRange lt_of_pre)
open Cert.Proof.RefValue (refOut_eq)

/-- Under the range predicate every index word of every device is below 4096 (bit patterns). -/
theorem inRange_bits (m : (ℓ : Loc Cert.Kernel.nD Cert.Kernel.τ Cert.Kernel.sig) → Buf (Elt Bits) ℓ)
    (h : Cert.Pre_Kernel m) : InRange (F := Bits) m := fun d j => lt_of_pre _ _ (h d) j

/-- Under the range predicate every index word of every device is below 4096 (extended reals). -/
theorem inRange_ideal (m : (ℓ : Loc Cert.KernelIdeal.nD Cert.KernelIdeal.τ Cert.KernelIdeal.sig) → Buf (Elt Ideal) ℓ)
    (h : Cert.Pre_KernelIdeal m) : InRange (F := Ideal) m := fun d j => lt_of_pre _ _ (h d) j

/-- The kernel runs without fault, keeps its arguments, and leaves every semaphore counter at zero. -/
theorem frame_kernel : Cert.quiescent_Kernel := fun m ρ hp =>
  (θ_run Cert.KernelIdeal.defs _ _).mono (fun _ h => ⟨fun c => (h.1 c).2, h.2⟩)
    (run_main (F := Bits) m ρ (inRange_bits m hp))

/-- The same of the kernel read at the extended reals. -/
theorem frame_kernelIdeal : Cert.quiescent_KernelIdeal := fun m ρ hp =>
  (θ_run Cert.KernelIdeal.defs _ _).mono (fun _ h => ⟨fun c => (h.1 c).2, h.2⟩)
    (run_main (F := Ideal) m ρ (inRange_ideal m hp))

/-- The reference runs without fault, keeps its arguments, and, declaring no semaphore, leaves every counter at zero. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same of the reference read at the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same bits: row `r` of both is the hidden states' row at batch
    `min (r mod 4) 1 + 2 (r / 4)` and position `word (r mod 4)`. -/
theorem bitexact : Cert.bitexact_Kernel_Reference := by
  intro m ρ m' ρ' hp hag
  have hw := inRange_bits m hp
  refine ⟨fun c => outV (F := Bits) m c, ?_, ?_⟩
  · exact (θ_run Cert.KernelIdeal.defs _ _).mono (fun _ h c => h.1 c) (run_main (F := Bits) m ρ hw)
  · refine (θ_run Cert.Reference.defs _ _).mono (fun _ h c => ⟨(h c).1.trans ?_, (h c).2⟩)
      (Cert.Reference.Value.run (F := Bits) m' ρ')
    rw [(hag c).1, (hag c).2]
    exact refOut_eq _ _ (hw c) _

/-- The kernel and the reference, read at the extended reals, end with the same result. -/
theorem algebraic : Cert.algebraic_KernelIdeal_ReferenceIdeal := by
  intro m ρ m' ρ' hp hag
  have hw := inRange_ideal m hp
  refine ⟨fun c => outV (F := Ideal) m c, ?_, ?_⟩
  · exact (θ_run Cert.KernelIdeal.defs _ _).mono (fun _ h c => h.1 c) (run_main (F := Ideal) m ρ hw)
  · refine (θ_run Cert.ReferenceIdeal.defs _ _).mono (fun _ h c => ⟨(h c).1.trans ?_, (h c).2⟩)
      (Cert.ReferenceIdeal.Value.run (F := Ideal) m' ρ')
    rw [(hag c).1, (hag c).2]
    exact refOut_eq _ _ (hw c) _

/-- Every claim of the certificate. -/
theorem claim : Cert.Claim := ⟨Cert.Kernel.Gen.facts, Cert.KernelIdeal.Gen.facts, Cert.Reference.Gen.facts,
  Cert.ReferenceIdeal.Gen.facts, Cert.Pre_in_range.Gen.facts, frame_kernel, frame_kernelIdeal, frame_reference,
  fun m ρ _ => frame_reference m ρ trivial, frame_referenceIdeal, fun m ρ _ => frame_referenceIdeal m ρ trivial,
  bitexact, trivial, algebraic⟩

end Cert.Proof

end
